-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16384x26 : Shape := ⟨2, ![16384, 26]⟩
abbrev S1000000x16 : Shape := ⟨2, ![1000000, 16]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S16384x26 .f32) (main_arg2 : FVec F S1000000x16 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 1000000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S1000000x16 : Shape := ⟨2, ![1000000, 16]⟩
abbrev S425984 : Shape := ⟨1, ![425984]⟩
abbrev S425984x16 : Shape := ⟨2, ![425984, 16]⟩
abbrev S1024 : Shape := ⟨1, ![1024]⟩
abbrev S1024x16 : Shape := ⟨2, ![1024, 16]⟩
abbrev S_ : Shape := ⟨0, ![]⟩
abbrev S16 : Shape := ⟨1, ![16]⟩
abbrev S1x16 : Shape := ⟨2, ![1, 16]⟩
abbrev S1 : Shape := ⟨1, ![1]⟩
abbrev S16384x26x16 : Shape := ⟨3, ![16384, 26, 16]⟩

abbrev nBuf : Table → Nat
  | .hbm => 7
  | .local .scVector .vmem => 3
  | _ => 0

abbrev bufTy : (tb : Table) → Fin (nBuf tb) → BufTy
  | .hbm, ⟨0, _⟩ => ⟨S16384x26, .i32⟩
  | .hbm, ⟨1, _⟩ => ⟨S16384x26, .f32⟩
  | .hbm, ⟨2, _⟩ => ⟨S1000000x16, .f32⟩
  | .hbm, ⟨3, _⟩ => ⟨S425984, .i32⟩
  | .hbm, ⟨4, _⟩ => ⟨S425984, .f32⟩
  | .hbm, ⟨5, _⟩ => ⟨S425984x16, .f32⟩
  | .hbm, ⟨6, _⟩ => ⟨S16384x26x16, .f32⟩
  | .local .scVector .vmem, ⟨0, _⟩ => ⟨S1024, .i32⟩
  | .local .scVector .vmem, ⟨1, _⟩ => ⟨S1024, .f32⟩
  | .local .scVector .vmem, ⟨2, _⟩ => ⟨S1024x16, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_arg2_scv : Ref sig .scVector := ⟨.hbm, 2, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c13_i32 : BitVec 32 := 13#32
  let v3 : BitVec 32 := Scalar.addi c0_i32_0 c13_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_0 : BitVec 32 := 0#32
  let c1_i32 : BitVec 32 := 1#32
  let arg10 : BitVec 32 := Scf.iv c0_i32_0 c1_i32 k0_t1
  let c1024_i32 : BitVec 32 := 1024#32
  let v4 : BitVec 32 := Scalar.muli arg10 c1024_i32
  let v5 : BitVec 32 := Scalar.addi v2 v4
  ![v5.toNat]
@[reducible] def k0_t2_loop : Scf.Loop 32 :=
  let c0_i32_7 : BitVec 32 := 0#32
  let c64_i32 : BitVec 32 := 64#32
  let v8 : BitVec 32 := Scalar.addi c0_i32_7 c64_i32
  let c1_i32_8 : BitVec 32 := 1#32
  ⟨c0_i32_7, v8, c1_i32_8⟩
def k0_off2 (k0_t2 : Fin k0_t2_loop.trips) : Fin 1 → Nat :=
  let c0_i32_7 : BitVec 32 := 0#32
  let c1_i32_8 : BitVec 32 := 1#32
  let arg11 : BitVec 32 := Scf.iv c0_i32_7 c1_i32_8 k0_t2
  let c16_i32 : BitVec 32 := 16#32
  let v9 : BitVec 32 := Scalar.muli arg11 c16_i32
  let v10 : Index := Scalar.indexCast v9
  ![v10.toNat]
def k0_off3 (k0_t2 : Fin k0_t2_loop.trips) (c0_i32_10 : BitVec 32) : Fin 2 → Nat :=
  let c0_i32_7 : BitVec 32 := 0#32
  let c1_i32_8 : BitVec 32 := 1#32
  let arg11 : BitVec 32 := Scf.iv c0_i32_7 c1_i32_8 k0_t2
  let c16_i32 : BitVec 32 := 16#32
  let v9 : BitVec 32 := Scalar.muli arg11 c16_i32
  let v13 : BitVec 32 := Scalar.addi v9 c0_i32_10
  let v14 : Index := Scalar.indexCast v13
  let c0 : Index := 0#32
  ![v14.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let c0_i32_0 : BitVec 32 := 0#32
  let c1_i32 : BitVec 32 := 1#32
  let arg10 : BitVec 32 := Scf.iv c0_i32_0 c1_i32 k0_t1
  let c1024_i32 : BitVec 32 := 1024#32
  let v4 : BitVec 32 := Scalar.muli arg10 c1024_i32
  let v5 : BitVec 32 := Scalar.addi v2 v4
  let c0_i32_10_r2 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S1000000x16 : Shape := ⟨2, ![1000000, 16]⟩
abbrev S_ : Shape := ⟨0, ![]⟩
abbrev S16384x26x1 : Shape := ⟨3, ![16384, 26, 1]⟩
abbrev S1 : Shape := ⟨1, ![1]⟩
abbrev S1x1x1 : Shape := ⟨3, ![1, 1, 1]⟩
abbrev S16384x26x16 : Shape := ⟨3, ![16384, 26, 16]⟩

abbrev nBuf : Space → Nat
  | .hbm => 29
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x26, .f32⟩
  | .hbm, ⟨2, _⟩ => ⟨S1000000x16, .f32⟩
  | .hbm, ⟨3, _⟩ => ⟨S_, .i32⟩
  | .hbm, ⟨4, _⟩ => ⟨S16384x26, .i32⟩
  | .hbm, ⟨5, _⟩ => ⟨S16384x26, .i1⟩
  | .hbm, ⟨6, _⟩ => ⟨S_, .i32⟩
  | .hbm, ⟨7, _⟩ => ⟨S16384x26, .i32⟩
  | .hbm, ⟨8, _⟩ => ⟨S16384x26, .i32⟩
  | .hbm, ⟨9, _⟩ => ⟨S16384x26, .i32⟩
  | .hbm, ⟨10, _⟩ => ⟨S16384x26x1, .i32⟩
  | .hbm, ⟨11, _⟩ => ⟨S1, .i32⟩
  | .hbm, ⟨12, _⟩ => ⟨S_, .i32⟩
  | .hbm, ⟨13, _⟩ => ⟨S16384x26x1, .i32⟩
  | .hbm, ⟨14, _⟩ => ⟨S16384x26x1, .i1⟩
  | .hbm, ⟨15, _⟩ => ⟨S1x1x1, .i32⟩
  | .hbm, ⟨16, _⟩ => ⟨S16384x26x1, .i32⟩
  | .hbm, ⟨17, _⟩ => ⟨S16384x26x1, .i1⟩
  | .hbm, ⟨18, _⟩ => ⟨S16384x26x1, .i1⟩
  | .hbm, ⟨19, _⟩ => ⟨S_, .i1⟩
  | .hbm, ⟨20, _⟩ => ⟨S16384x26, .i1⟩
  | .hbm, ⟨21, _⟩ => ⟨S16384x26x16, .f32⟩
  | .hbm, ⟨22, _⟩ => ⟨S16384x26x16, .i1⟩
  | .hbm, ⟨23, _⟩ => ⟨S_, .f32⟩
  | .hbm, ⟨24, _⟩ => ⟨S16384x26x16, .f32⟩
  | .hbm, ⟨25, _⟩ => ⟨S16384x26x16, .f32⟩
  | .hbm, ⟨26, _⟩ => ⟨S16384x26x1, .f32⟩
  | .hbm, ⟨27, _⟩ => ⟨S16384x26x16, .f32⟩
  | .hbm, ⟨28, _⟩ => ⟨S16384x26x16, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩

abbrev nD : Nat := 1
abbrev τ : Topo := Topo.v7x

variable {F : FTy → Type} [FloatOps F]
-- ==== Proof.KernelIdealRows.lean ====
/-
  The row scaling of the SparseCore kernel: one trip of its inner loop takes sixteen rows of the gathered block, and
  multiplies row `16 * k + r` by the `r`-th of the sixteen values read beside it. The kernel spells the sixteen rows out;
  here they are one family `rowPay`, and the sixteen stores together are the array `scaled` at `16 * (k + 1)`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Pointwise
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.KernelIdealRows

open Cert.KernelIdeal Cert.KernelIdeal.Gen

open Idealize.ShloMosaic

variable {F : FTy → Type} [FloatOps F]

/-- The `r`-th value of sixteen is there to be cut out. -/
theorem slices_row (r : Fin 16) : S16.Slices ![r.val] S1 := by revert r; decide

/-- What the kernel stores for row `r` of a trip: the row, times the `r`-th of the trip's sixteen values. -/
def rowPay (r : Fin 16) (vals : Vec F S16 .f32) (row : Vec F S1x16 .f32) : FVec F S1x16 .f32 :=
  shapeCast S1x16 (mulf (shapeCast S16 row shapeCasts_S1x16_S16)
    (broadcast S16 (extractAt ![0] (extractStridedSlice S1 ![r.val] (k0_pay4 vals) (slices_row r)) inpos_S1_p0))) shapeCasts_S16_S1x16

theorem rowPay_apply (r : Fin 16) (vals : Vec F S16 .f32) (row : Vec F S1x16 .f32) (x : S1x16.Idx) :
    rowPay r vals row x = FloatOps.mulf (row x) (vals (ix1 r)) := by
  unfold rowPay k0_pay4
  pointwise

/-- Row `16 * k + r` of the row buffer, as the kernel addresses it. -/
abbrev rowRect (k : Fin k0_t2_loop.trips) (r : Fin 16) : Rect S1024x16 :=
  Rect.unit (s := S1024x16) (k0_off3 k (BitVec.ofNat 32 r.val)) S1x16.size (k0_off3_inb k r)

/-- The sixteen values of trip `k`, as the kernel addresses them. -/
abbrev valRect (k : Fin k0_t2_loop.trips) : Rect S1024 := Rect.unit (s := S1024) (k0_off2 k) S16.size (k0_off2_inb k)

/-- The gathered rows with the first `n` of them multiplied by their values. -/
def scaled (rows : S1024x16.Idx → F .f32) (vals : S1024.Idx → F .f32) (n : ℕ) : S1024x16.Idx → F .f32 :=
  fun x => if (x 0).val < n then FloatOps.mulf (rows x) (vals (ix1 (x 0))) else rows x

/-- The row scratch and the value scratch, as the subcore's task addresses them. -/
local notation "sV" => (Memref.whole Cert.KernelIdeal.cc0_scratch1 : Memref Cert.KernelIdeal.sig Kind.scVector Space.vmem Cert.KernelIdeal.S1024 EltTy.f32)
local notation "sR" => (Memref.whole Cert.KernelIdeal.cc0_scratch2 : Memref Cert.KernelIdeal.sig Kind.scVector Space.vmem Cert.KernelIdeal.S1024x16 EltTy.f32)

/-- The store of row `16 * k + r`: its rectangle, and what goes there. -/
def rowPiece (k : Fin k0_t2_loop.trips) (fv : S1024.Idx → F .f32) (fr : S1024x16.Idx → F .f32) (r : Fin 16) : View.Piece (Elt F) S1024x16 .f32 :=
  ⟨rowRect k r, rowPay r ((sV).view.readAt (Elt F) (valRect k).toLoadRect fv) ((sR).view.readAt (Elt F) (rowRect k r).toLoadRect fr)⟩

/-- The sixteen rows of a trip, the last stored first. -/
def rowsDown : List (Fin 16) := [15, 14, 13, 12, 11, 10, 9, 8, 7, 6, 5, 4, 3, 2, 1, 0]

theorem mem_rowsDown (r : Fin 16) : r ∈ rowsDown := by revert r; decide

/-- What a trip stores in row `16 * k + r` is the gathered row times the value of that row. -/
theorem rowPiece_apply (k : Fin k0_t2_loop.trips) (fv : S1024.Idx → F .f32) (fr : S1024x16.Idx → F .f32) (r : Fin 16) (x : (rowRect k r).shape.Idx) :
    (rowPiece k fv fr r).2 x = FloatOps.mulf (fr ((rowRect k r).emb x)) (fv (ix1 ((rowRect k r).emb x 0))) := by
  refine (rowPay_apply r _ _ x).trans ?_
  refine congrArg₂ _ rfl ?_
  refine congrArg fv (funext fun a => Fin.ext ?_)
  match a with
  | 0 =>
    show k0_off2 k 0 + 1 * r.val = k0_off3 k (BitVec.ofNat 32 r.val) 0 + 1 * (x 0).val
    have hx : (x 0).val = 0 := Nat.lt_one_iff.mp (x 0).isLt
    rw [k0_off2_eq, k0_off3_eq, hx]
    simp

/-- Row `n` lies in the rectangle of the trip's `r`-th row exactly when `n = 16 * k + r`. -/
theorem mem_rowRect (k : Fin k0_t2_loop.trips) (r : Fin 16) (y : S1024x16.Idx) : y ∈ (rowRect k r).set ↔ (y 0).val = 16 * k.val + r.val := by
  have h0 : k0_off3 k (BitVec.ofNat 32 r.val) 0 = 16 * k.val + r.val := by rw [k0_off3_eq]; rfl
  have h1 : k0_off3 k (BitVec.ofNat 32 r.val) 1 = 0 := by rw [k0_off3_eq]; rfl
  rw [LoadRect.mem_set]
  constructor
  · intro h
    obtain ⟨j, hj, e⟩ := h 0
    have hj' : j < 1 := hj
    have e' : (y 0).val = k0_off3 k (BitVec.ofNat 32 r.val) 0 + 1 * j := e
    omega
  · intro h a
    match a with
    | 0 => exact ⟨0, Nat.one_pos, show (y 0).val = k0_off3 k (BitVec.ofNat 32 r.val) 0 + 1 * 0 by omega⟩
    | 1 => exact ⟨(y 1).val, (y 1).isLt, show (y 1).val = k0_off3 k (BitVec.ofNat 32 r.val) 1 + 1 * (y 1).val by omega⟩

/-- The sixteen stores of a trip take the block from `16 * k` rows scaled to `16 * (k + 1)`. -/
theorem trip_writes (k : Fin k0_t2_loop.trips) (fv : S1024.Idx → F .f32) (rows : S1024x16.Idx → F .f32) :
    (sR).view.writes (Elt F) (scaled rows fv (16 * k.val)) (rowsDown.map (rowPiece k fv (scaled rows fv (16 * k.val))))
      = scaled rows fv (16 * (k.val + 1)) := by
  funext y
  show (sR).view.read (Elt F) ((sR).view.writes (Elt F) (scaled rows fv (16 * k.val)) (rowsDown.map (rowPiece k fv (scaled rows fv (16 * k.val))))) y
    = scaled rows fv (16 * (k.val + 1)) y
  by_cases hy : 16 * k.val ≤ (y 0).val ∧ (y 0).val < 16 * k.val + 16
  · refine (View.read_writes_apply_of_pieces (Val := Elt F) (sR).view (scaled rows fv (16 * k.val))
      (fun x => FloatOps.mulf (scaled rows fv (16 * k.val) x) (fv (ix1 (x 0)))) _ ?_ y ?_).trans ?_
    · intro p hp
      obtain ⟨r, -, rfl⟩ := List.mem_map.mp hp
      exact rowPiece_apply k fv _ r
    · refine ⟨_, List.mem_map.mpr ⟨⟨(y 0).val - 16 * k.val, by omega⟩, mem_rowsDown _, rfl⟩, ?_⟩
      refine (mem_rowRect k _ y).mpr ?_
      show (y 0).val = 16 * k.val + ((y 0).val - 16 * k.val); omega
    · show FloatOps.mulf (scaled rows fv (16 * k.val) y) (fv (ix1 (y 0))) = _
      unfold scaled
      rw [if_neg (by omega), if_pos (by omega)]
  · refine (View.read_writes_apply_of_forall_not_mem (Val := Elt F) (sR).view (scaled rows fv (16 * k.val)) y _ ?_).trans ?_
    · intro p hp
      obtain ⟨r, -, rfl⟩ := List.mem_map.mp hp
      intro hm
      have := (mem_rowRect k r y).mp hm
      omega
    · show scaled rows fv (16 * k.val) y = _
      unfold scaled
      by_cases h : (y 0).val < 16 * k.val
      · rw [if_pos h, if_pos (by omega)]
      · rw [if_neg h, if_neg (by omega)]

theorem scaled_zero (rows : S1024x16.Idx → F .f32) (vals : S1024.Idx → F .f32) : scaled rows vals 0 = rows := by
  funext x; exact if_neg (Nat.not_lt_zero _)

theorem scaled_all (rows : S1024x16.Idx → F .f32) (vals : S1024.Idx → F .f32) (n : ℕ) (hn : 1024 ≤ n) (x : S1024x16.Idx) :
    scaled rows vals n x = FloatOps.mulf (rows x) (vals (ix1 (x 0))) :=
  if_pos (Nat.lt_of_lt_of_le (x 0).isLt hn)

/-- The row of the table that an id names (row 0 for a word that names none). -/
def rowOf (v : BitVec 32) : Fin 1000000 := if h : v.toNat < 1000000 then ⟨v.toNat, h⟩ else ⟨0, by decide⟩

/-- What the kernel computes: row `n` of the result is the row of the table that id `n` names, times value `n`. -/
def outOf (ids : S425984.Idx → BitVec 32) (vals : S425984.Idx → F .f32) (tab : S1000000x16.Idx → F .f32) : S425984x16.Idx → F .f32 :=
  fun y => FloatOps.mulf (tab (ix2 (rowOf (ids (ix1 (y 0)))) (y 1))) (vals (ix1 (y 0)))

/-- The result array with its rows below `n` computed, the others as they were. -/
def outTo (ids : S425984.Idx → BitVec 32) (vals : S425984.Idx → F .f32) (tab : S1000000x16.Idx → F .f32) (fo : S425984x16.Idx → F .f32) (n : ℕ) :
    S425984x16.Idx → F .f32 :=
  fun y => if (y 0).val < n then outOf ids vals tab y else fo y

end Cert.Proof.KernelIdealRows

end
-- ==== Proof.KernelIdealTile.lean ====
/-
  The kernel's task on one vector subcore. Subcore `s` of SparseCore `c` is worker `2 * s + c` of thirty-two; it owns rows
  `13312 * w` to `13312 * (w + 1)` of the flat result and takes them in thirteen chunks of 1024. A chunk's ids and values
  are copied in, the rows the ids name are gathered from the table, each is multiplied by its value, and the block is
  copied out. The chunk loop runs at an invariant that says the rows of the chunks done hold what `outOf` says.
-/
module

public import proofs.«01_k».proof.Proof.KernelIdealRows

@[expose] public section

noncomputable section

namespace Cert.Proof.KernelIdealTile

open Cert.KernelIdeal Cert.KernelIdeal.Gen
open Cert.Proof.KernelIdealRows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the scratch, as a task addresses them -/

local notation "idV" => (Memref.whole Cert.KernelIdeal.main_v0_scv : Memref Cert.KernelIdeal.sig Kind.scVector Space.hbm Cert.KernelIdeal.S425984 EltTy.i32)
local notation "vaV" => (Memref.whole Cert.KernelIdeal.main_v1_scv : Memref Cert.KernelIdeal.sig Kind.scVector Space.hbm Cert.KernelIdeal.S425984 EltTy.f32)
local notation "taV" => (Memref.whole Cert.KernelIdeal.main_arg2_scv : Memref Cert.KernelIdeal.sig Kind.scVector Space.hbm Cert.KernelIdeal.S1000000x16 EltTy.f32)
local notation "ouV" => (Memref.whole Cert.KernelIdeal.main_v2_scv : Memref Cert.KernelIdeal.sig Kind.scVector Space.hbm Cert.KernelIdeal.S425984x16 EltTy.f32)
local notation "sI" => (Memref.whole Cert.KernelIdeal.cc0_scratch0 : Memref Cert.KernelIdeal.sig Kind.scVector Space.vmem Cert.KernelIdeal.S1024 EltTy.i32)
local notation "sV" => (Memref.whole Cert.KernelIdeal.cc0_scratch1 : Memref Cert.KernelIdeal.sig Kind.scVector Space.vmem Cert.KernelIdeal.S1024 EltTy.f32)
local notation "sR" => (Memref.whole Cert.KernelIdeal.cc0_scratch2 : Memref Cert.KernelIdeal.sig Kind.scVector Space.vmem Cert.KernelIdeal.S1024x16 EltTy.f32)

abbrev cV (L : grid0.Coords) : Fin τ.nSC := (L 0).castLE hcore0
abbrev jV (L : grid0.Coords) : Fin τ.nSub := (L 1).castLE hsub0

/-- The task's thread. -/
abbrev thr (d : Dev nD) (L : grid0.Coords) : Thread nD τ := V d (cV L) (jV L)

variable [FloatOps F] (d : Dev nD) (L : grid0.Coords)

/-- One chunk of the task, and one trip of the chunk's scaling loop. -/
abbrev body1 : Fin k0_t1_loop.trips → Unit → Prog (TpuEff nD τ sig (Elt F) Λ₀ (thr d L).2) Unit :=
  k0_t1_body L idV (Memref.isWhole_whole _) vaV (Memref.isWhole_whole _) taV (Memref.isWhole_whole _) ouV (Memref.isWhole_whole _)
    sI (Memref.isWhole_whole _) sV (Memref.isWhole_whole _) sR (Memref.isWhole_whole _) cc0_scratch3 cc0_scoped0 cc0_scoped1 cc0_scoped2
abbrev body2 : Fin k0_t2_loop.trips → Unit → Prog (TpuEff nD τ sig (Elt F) Λ₀ (thr d L).2) Unit :=
  k0_t2_body L idV (Memref.isWhole_whole _) vaV (Memref.isWhole_whole _) taV (Memref.isWhole_whole _) ouV (Memref.isWhole_whole _)
    sI (Memref.isWhole_whole _) sV (Memref.isWhole_whole _) sR (Memref.isWhole_whole _) cc0_scratch3 cc0_scoped0 cc0_scoped1 cc0_scoped2

/-! ## The scaling loop -/

/-- Before trip `n` of the scaling loop: the chunk's values, and its rows with the first `16 * n` scaled. -/
def inv2 (fv : S1024.Idx → F .f32) (rows : S1024x16.Idx → F .f32) (n : Nat) (_ : Unit) : sProp 𝕄 :=
  iprop(((sV).view.loc (thr d L) ↦{fullShare} (fv : Buf (Elt F) ((sV).view.loc (thr d L))))
    ∗ ((sR).view.loc (thr d L) ↦{fullShare} (scaled rows fv (16 * n) : Buf (Elt F) ((sR).view.loc (thr d L)))))

/-- A trip of the scaling loop scales sixteen rows more. -/
theorem trip2 (k : Fin k0_t2_loop.trips) (fv : S1024.Idx → F .f32) (rows : S1024x16.Idx → F .f32) :
    inv2 d L fv rows k.val ⟨⟩ ⊢ (wp frame (wpE (defs₀ (F := F)) 𝒱₀ (thr d L) none) Set.univ (body2 d L k ⟨⟩)
      fun _ => inv2 d L fv rows (k.val + 1) ⟨⟩ : sProp 𝕄) := by
  unfold body2 k0_t2_body inv2
  iintro ⟨Hv, Hr⟩
  sl_open_parts
  sl_exec
  sl_step
  isplitl [Hv]; · iexact Hv
  iapply (Entails.of_eq (show ((sR).view.loc (thr d L) ↦{fullShare} ((sR).view.writes (Elt F) (scaled rows fv (16 * k.val))
        (rowsDown.map (rowPiece k fv (scaled rows fv (16 * k.val))))) : sProp 𝕄)
      = ((sR).view.loc (thr d L) ↦{fullShare} (scaled rows fv (16 * (k.val + 1)) : Buf (Elt F) ((sR).view.loc (thr d L)))) by rw [trip_writes]))
  iexact Hr

/-! ## The chunk -/

/-- The task's worker number. -/
def wid (L : grid0.Coords) : Fin 32 := ⟨2 * (L 1).val + (L 0).val, by
  have h0 : (L 0).val < 2 := (L 0).isLt
  have h1 : (L 1).val < 16 := (L 1).isLt
  omega⟩

/-- The chunk's ids, values and block of the result, and the table, as the task addresses them. -/
abbrev idK (k : Fin k0_t1_loop.trips) : Memref sig .scVector .hbm S1024 .i32 :=
  (idV).slice (Rect.unit (s := S425984) (k0_off1 L k) S1024.size (k0_off1_inb L k)) (fun _ => rfl)
abbrev vaK (k : Fin k0_t1_loop.trips) : Memref sig .scVector .hbm S1024 .f32 :=
  (vaV).slice (Rect.unit (s := S425984) (k0_off1 L k) S1024.size (k0_off1_inb L k)) (fun _ => rfl)
abbrev taK : Memref sig .scVector .hbm S1000000x16 .f32 :=
  (taV).slice (Rect.unit (s := S1000000x16) ![0, 0] S1000000x16.size inb_S1000000x16_S1000000x16_0_0) (fun _ => rfl)
abbrev ouK (k : Fin k0_t1_loop.trips) : Memref sig .scVector .hbm S1024x16 .f32 :=
  (ouV).slice (Rect.unit (s := S425984x16) (k0_off4 L k) S1024x16.size (k0_off4_inb L k)) (fun _ => rfl)

/-- The chunk's gathered rows: row `x` is the row of the table that the chunk's id `x` names. -/
def gath (k : Fin k0_t1_loop.trips) (ids : S425984.Idx → BitVec 32) (tab : S1000000x16.Idx → F .f32) : S1024x16.Idx → F .f32 :=
  fun x => tab (ix2 (rowOf (ids ((idK L k).view.emb (ix1 (x 0))))) (x 1))

/-- The chunk's values. -/
abbrev chunkVals (k : Fin k0_t1_loop.trips) (vals : S425984.Idx → F .f32) : S1024.Idx → F .f32 :=
  (vaK L k).view.read (Elt F) vals

/-- What the gather brings is the gathered rows. -/
theorem gather_eq (k : Fin k0_t1_loop.trips) (ids : S425984.Idx → BitVec 32) (tab : S1000000x16.Idx → F .f32)
    (hin : ∀ x, ((sI).view.read (Elt F) ((idK L k).view.read (Elt F) (ids : Buf (Elt F) ((idV).view.loc (thr d L)))) x).toNat
      < S1000000x16.size gathers_S1000000x16_S1024x16.axis) :
    SparseCore.gatherPayload (F := F) (e := .f32) gathers_S1000000x16_S1024x16 (taK.view.read (Elt F) (tab : Buf (Elt F) ((taV).view.loc (thr d L))))
        (SparseCore.rows (F := F) ((sI).view.read (Elt F) ((idK L k).view.read (Elt F) (ids : Buf (Elt F) ((idV).view.loc (thr d L))))) rfl hin)
      = gath L k ids tab := by
  funext x
  unfold SparseCore.gatherPayload gath
  show tab (taK.view.emb (gathers_S1000000x16_S1024x16.idx _ x)) = _
  refine congrArg tab (funext fun a => Fin.ext ?_)
  match a with
  | 0 =>
    show 0 + 1 * (gathers_S1000000x16_S1024x16.idx _ x gathers_S1000000x16_S1024x16.axis).val = (rowOf _).val
    rw [Shape.Gathers.idx_axis]
    have hj : ∀ (j : Fin S1024.numel) (i : Fin 1024), j.val = i.val → S1024.rowMajor.symm j = ix1 i := fun j i h =>
      (Equiv.symm_apply_eq _).mpr (Fin.ext (h.trans (Shape.rowMajor_val_one (ix1 i)).symm))
    have hr : (ids ((idK L k).view.emb (ix1 (x 0)))).toNat < 1000000 := hin (ix1 (x 0))
    unfold rowOf
    rw [dif_pos hr]
    refine (Nat.zero_add _).trans ((Nat.one_mul _).trans ?_)
    show (ids ((idK L k).view.emb (S1024.rowMajor.symm _))).toNat = (ids ((idK L k).view.emb (ix1 (x 0)))).toNat
    exact congrArg (fun i => (ids ((idK L k).view.emb i)).toNat) (hj _ (x 0) rfl)
  | 1 =>
    show 0 + 1 * (gathers_S1000000x16_S1024x16.idx _ x 1).val = (x 1).val
    rw [Shape.Gathers.idx_of_ne _ _ _ _ (by decide)]
    show 0 + 1 * (x 1).val = (x 1).val
    omega

/-- The chunk's scaled rows, copied to its block of the result, are what `outOf` says there. -/
theorem chunk_out (k : Fin k0_t1_loop.trips) (ids : S425984.Idx → BitVec 32) (vals : S425984.Idx → F .f32) (tab : S1000000x16.Idx → F .f32)
    (x : S1024x16.Idx) (n : ℕ) (hn : 1024 ≤ n) :
    scaled (gath L k ids tab) (chunkVals L k vals) n x = outOf ids vals tab ((ouK L k).view.emb x) := by
  rw [scaled_all _ _ _ hn]
  have h0 : ∀ j : Fin 1024, (idK L k).view.emb (ix1 j) = ix1 ((ouK L k).view.emb (ix2 j (x 1)) 0) := fun j => funext fun a => Fin.ext (by
    match a with
    | 0 =>
      show k0_off1 L k 0 + 1 * j.val = k0_off4 L k 0 + 1 * j.val
      rw [k0_off1_eq, k0_off4_eq]; rfl)
  have hx : ix2 (x 0) (x 1) = x := funext fun a => by match a with | 0 => rfl | 1 => rfl
  have h1 : ((ouK L k).view.emb x) 1 = x 1 := Fin.ext (by
    show k0_off4 L k 1 + 1 * (x 1).val = (x 1).val
    rw [k0_off4_eq]; show 0 + 1 * (x 1).val = (x 1).val; omega)
  unfold gath outOf
  rw [h1]
  have h2 : (idK L k).view.emb (ix1 (x 0)) = ix1 ((ouK L k).view.emb x 0) :=
    (h0 (x 0)).trans (congrArg (fun z => ix1 ((ouK L k).view.emb z 0)) hx)
  rw [h2]
  refine congrArg₂ _ rfl ?_
  show vals ((vaK L k).view.emb (ix1 (x 0))) = _
  exact congrArg vals h2

/-- What the chunk loop keeps besides the result: the shares of the ids, the values and the table, the three scratch
    buffers at any contents, the four counters at zero, and what the task owes. -/
def held (q : PosShare TreeShare) (ids : S425984.Idx → BitVec 32) (vals : S425984.Idx → F .f32) (tab : S1000000x16.Idx → F .f32)
    (O : CellTallies nD τ sig (HIx 1)) (W : Waits sig (HIx 1)) : sProp 𝕄 :=
  iprop(Transfers.MayWaits (thr d L) (none : HIx 1) O
    ∗ ((idV).view.loc (thr d L) ↦{q} (ids : Buf (Elt F) ((idV).view.loc (thr d L))))
    ∗ ((vaV).view.loc (thr d L) ↦{q} (vals : Buf (Elt F) ((vaV).view.loc (thr d L))))
    ∗ ((taV).view.loc (thr d L) ↦{q} (tab : Buf (Elt F) ((taV).view.loc (thr d L))))
    ∗ (∃ f, (sI).view.loc (thr d L) ↦{fullShare} f)
    ∗ (∃ f, (sV).view.loc (thr d L) ↦{fullShare} f)
    ∗ (∃ f, (sR).view.loc (thr d L) ↦{fullShare} f)
    ∗ semVal (thr d L, SemLoc.dma cc0_scratch3.sem) 0
    ∗ semVal (thr d L, SemLoc.dma cc0_scoped0.sem) 0
    ∗ semVal (thr d L, SemLoc.dma cc0_scoped1.sem) 0
    ∗ semVal (thr d L, SemLoc.dma cc0_scoped2.sem) 0
    ∗ ∃ W', ⌜∀ p ∈ W', p ∈ W ∨ p.2 = none⌝ ∗ owes (thr d L) O W')

set_option maxHeartbeats 4000000 in
/-- A chunk: from its block of the result at any contents to the block computed. -/
theorem trip1 (k : Fin k0_t1_loop.trips) (q : PosShare TreeShare) (ids : S425984.Idx → BitVec 32) (vals : S425984.Idx → F .f32)
    (tab : S1000000x16.Idx → F .f32) (hids : ∀ j, (ids j).toNat < 1000000) (O : CellTallies nD τ sig (HIx 1)) (W : Waits sig (HIx 1))
    (fo : S425984x16.Idx → F .f32) :
    iprop(held d L q ids vals tab O W ∗ ((ouK L k).view.loc (thr d L) ↦[(ouK L k).view.set]{fullShare} (fo : Buf (Elt F) ((ouV).view.loc (thr d L)))))
      ⊢ (wp frame (wpE (defs₀ (F := F)) 𝒱₀ (thr d L) none) Set.univ (body1 d L k ⟨⟩)
          fun _ => iprop(held d L q ids vals tab O W
            ∗ ((ouK L k).view.loc (thr d L) ↦[(ouK L k).view.set]{fullShare} (outOf ids vals tab : Buf (Elt F) ((ouV).view.loc (thr d L))))) : sProp 𝕄) := by
  unfold body1 k0_t1_body held
  have hin : ∀ x, ((sI).view.read (Elt F) ((idK L k).view.read (Elt F) (ids : Buf (Elt F) ((idV).view.loc (thr d L)))) x).toNat
      < S1000000x16.size gathers_S1000000x16_S1024x16.axis := fun x => hids ((idK L k).view.emb x)
  iintro ⟨⟨#Hmw, Hid, Hva, Hta, ⟨%fi, Hi⟩, ⟨%fv, Hv⟩, ⟨%fr, Hr⟩, HsG, HsA, HsB, HsC, %W', %hW', HO⟩, Ho⟩
  sl_exec
  ihave Hi' := (Entails.of_eq (show ((sI).view.loc (thr d L) ↦{fullShare} View.write (Elt F) (sI).view fi (trip1.sl.dma0 L k ids) Finset.univ : sProp 𝕄)
      = ((sI).view.loc (thr d L) ↦{fullShare} (idK L k).view.read (Elt F) (ids : Buf (Elt F) ((idV).view.loc (thr d L)))) by
    rw [View.write_whole_univ]; rfl)) $$ Hi
  ihave Hv' := (Entails.of_eq (show ((sV).view.loc (thr d L) ↦{fullShare} View.write (Elt F) (sV).view fv (trip1.sl.dma0_1 L k vals) Finset.univ : sProp 𝕄)
      = ((sV).view.loc (thr d L) ↦{fullShare} (vaK L k).view.read (Elt F) (vals : Buf (Elt F) ((vaV).view.loc (thr d L)))) by
    rw [View.write_whole_univ]; rfl)) $$ Hv
  sl_exec
  ihave Hr' := (Entails.of_eq (show ((sR).view.loc (thr d L) ↦{fullShare} (sR).view.writes (Elt F) (sR).view.junk
        [⟨Rect.whole S1024x16, trip1.sl.gather0 L k ids tab hin⟩] : sProp 𝕄)
      = ((sR).view.loc (thr d L) ↦{fullShare} (scaled (gath L k ids tab) (chunkVals L k vals) (16 * 0) : Buf (Elt F) ((sR).view.loc (thr d L)))) by
    rw [scaled_zero, ← gather_eq L k ids tab hin]
    exact congrArg _ (View.read_writes_whole (Val := Elt F) (sR).view _ _))) $$ Hr
  sl_for (inv2 d L (chunkVals L k vals) (gath L k ids tab)) $$ [Hv' Hr']
  case region =>
    intro n _
    exact trip2 d L n _ _
  · unfold inv2
    isplitl [Hv']; · iexact Hv'
    iexact Hr'
  iintro %_ HI
  unfold inv2
  icases HI with ⟨Hv, Hr⟩
  sl_exec
  sl_step
  isplitr [Ho]
  · isplitr; · iexact Hmw
    isplitl [Hid]; · iexact Hid
    isplitl [Hva]; · iexact Hva
    isplitl [Hta]; · iexact Hta
    isplitl [Hi']; · iexists _; iexact Hi'
    isplitl [Hv]; · iexists _; iexact Hv
    isplitl [Hr]; · iexists _; iexact Hr
    isplitl [HsG]; · iexact HsG
    isplitl [HsA]; · iexact HsA
    isplitl [HsB]; · iexact HsB
    isplitl [HsC]; · iexact HsC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · have hval : ∀ i ∈ (ouK L k).view.set,
        (ouK L k).view.writes (Elt F) fo [⟨Rect.whole S1024x16, trip1.sl.dma0_2 L k ids vals tab⟩] i = outOf ids vals tab i := by
      intro i hi
      obtain ⟨x, -, rfl⟩ := Finset.mem_map.mp hi
      have h := congrFun (View.read_writes_whole (Val := Elt F) (ouK L k).view fo (trip1.sl.dma0_2 L k ids vals tab)) x
      exact h.trans (chunk_out L k ids vals tab x _ (by decide))
    iapply (Entails.of_eq (pointsTo_congr hval)) $$ Ho

end Cert.Proof.KernelIdealTile

end
-- ==== Proof.KernelIdealTask.lean ====
/-
  The whole task of a vector subcore: its thirteen chunks, run one after another over the worker's rows of the result, and
  the task's own scratch buffers and semaphores around them. At the end the worker's rows hold what `outOf` says.
-/
module

public import proofs.«01_k».proof.Proof.KernelIdealTile

@[expose] public section

noncomputable section

namespace Cert.Proof.KernelIdealTask

open Cert.KernelIdeal Cert.KernelIdeal.Gen
open Cert.Proof.KernelIdealRows Cert.Proof.KernelIdealTile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "idV" => (Memref.whole Cert.KernelIdeal.main_v0_scv : Memref Cert.KernelIdeal.sig Kind.scVector Space.hbm Cert.KernelIdeal.S425984 EltTy.i32)
local notation "vaV" => (Memref.whole Cert.KernelIdeal.main_v1_scv : Memref Cert.KernelIdeal.sig Kind.scVector Space.hbm Cert.KernelIdeal.S425984 EltTy.f32)
local notation "taV" => (Memref.whole Cert.KernelIdeal.main_arg2_scv : Memref Cert.KernelIdeal.sig Kind.scVector Space.hbm Cert.KernelIdeal.S1000000x16 EltTy.f32)
local notation "ouV" => (Memref.whole Cert.KernelIdeal.main_v2_scv : Memref Cert.KernelIdeal.sig Kind.scVector Space.hbm Cert.KernelIdeal.S425984x16 EltTy.f32)
local notation "sI" => (Memref.whole Cert.KernelIdeal.cc0_scratch0 : Memref Cert.KernelIdeal.sig Kind.scVector Space.vmem Cert.KernelIdeal.S1024 EltTy.i32)
local notation "sV" => (Memref.whole Cert.KernelIdeal.cc0_scratch1 : Memref Cert.KernelIdeal.sig Kind.scVector Space.vmem Cert.KernelIdeal.S1024 EltTy.f32)
local notation "sR" => (Memref.whole Cert.KernelIdeal.cc0_scratch2 : Memref Cert.KernelIdeal.sig Kind.scVector Space.vmem Cert.KernelIdeal.S1024x16 EltTy.f32)

variable [FloatOps F] (d : Dev nD) (L : grid0.Coords)

/-! ## The worker's rows and the chunk's -/

/-- The rows of the result that worker `w` owns. -/
def ouPart (w : Fin 32) : Finset S425984x16.Idx :=
  Finset.univ.filter fun y => 13312 * w.val ≤ (y 0).val ∧ (y 0).val < 13312 * (w.val + 1)

omit [FloatOps F] in
theorem mem_ouPart (w : Fin 32) (y : S425984x16.Idx) : y ∈ ouPart w ↔ 13312 * w.val ≤ (y 0).val ∧ (y 0).val < 13312 * (w.val + 1) := by
  unfold ouPart; exact (Finset.mem_filter).trans (and_iff_right (Finset.mem_univ _))

/-- The rows of chunk `k`. -/
theorem mem_ouK (k : Fin k0_t1_loop.trips) (y : S425984x16.Idx) :
    y ∈ (ouK L k).view.set ↔ 13312 * (wid L).val + 1024 * k.val ≤ (y 0).val ∧ (y 0).val < 13312 * (wid L).val + 1024 * k.val + 1024 := by
  have hs : (ouK L k).view.set = (Rect.unit (s := S425984x16) (k0_off4 L k) S1024x16.size (k0_off4_inb L k)).set := by
    show ((View.whole (main_v2_scv : Ref sig .scVector)).slice _).set = _
    rw [View.set_slice]; exact Finset.map_refl
  have h0 : k0_off4 L k 0 = 13312 * (wid L).val + 1024 * k.val := by
    rw [k0_off4_eq]; show 26624 * (L 1).val + 13312 * (L 0).val + 1024 * k.val = 13312 * (2 * (L 1).val + (L 0).val) + 1024 * k.val; omega
  have h1 : k0_off4 L k 1 = 0 := by rw [k0_off4_eq]; rfl
  rw [hs, Rect.mem_set_unit]
  constructor
  · intro h
    have h' : k0_off4 L k 0 ≤ (y 0).val ∧ (y 0).val < k0_off4 L k 0 + 1024 := h 0
    omega
  · intro h a
    match a with
    | 0 => exact (show k0_off4 L k 0 ≤ (y 0).val ∧ (y 0).val < k0_off4 L k 0 + 1024 by omega)
    | 1 => exact (show k0_off4 L k 1 ≤ (y 1).val ∧ (y 1).val < k0_off4 L k 1 + 16 from ⟨by omega, by have : (y 1).val < 16 := (y 1).isLt; omega⟩)

/-- They are the worker's. -/
theorem ouK_sub (k : Fin k0_t1_loop.trips) : (ouK L k).view.set ⊆ ouPart (wid L) := fun y hy => by
  have h := (mem_ouK L k y).mp hy
  have hk : k.val < 13 := lt_of_lt_of_le k.isLt (by decide)
  exact (mem_ouPart _ y).mpr (by omega)

/-! ## The chunk loop -/

/-- Before chunk `n`: what the loop keeps, and the worker's rows of the result with its first `1024 * n` computed. -/
def inv1 (q : PosShare TreeShare) (ids : S425984.Idx → BitVec 32) (vals : S425984.Idx → F .f32) (tab : S1000000x16.Idx → F .f32)
    (O : CellTallies nD τ sig (HIx 1)) (W : Waits sig (HIx 1)) (fo : S425984x16.Idx → F .f32) (n : Nat) (_ : Unit) : sProp 𝕄 :=
  iprop(held d L q ids vals tab O W
    ∗ ((ouV).view.loc (thr d L) ↦[ouPart (wid L)]{fullShare}
        (outTo ids vals tab fo (13312 * (wid L).val + 1024 * n) : Buf (Elt F) ((ouV).view.loc (thr d L)))))

/-- A chunk computes 1024 rows more. -/
theorem step1 (k : Fin k0_t1_loop.trips) (q : PosShare TreeShare) (ids : S425984.Idx → BitVec 32) (vals : S425984.Idx → F .f32)
    (tab : S1000000x16.Idx → F .f32) (hids : ∀ j, (ids j).toNat < 1000000) (O : CellTallies nD τ sig (HIx 1)) (W : Waits sig (HIx 1))
    (fo : S425984x16.Idx → F .f32) :
    inv1 d L q ids vals tab O W fo k.val ⟨⟩ ⊢ (wp frame (wpE (defs₀ (F := F)) 𝒱₀ (thr d L) none) Set.univ (body1 d L k ⟨⟩)
      fun _ => inv1 d L q ids vals tab O W fo (k.val + 1) ⟨⟩ : sProp 𝕄) := by
  have hin : ∀ y ∈ (ouK L k).view.set, outTo ids vals tab fo (13312 * (wid L).val + 1024 * (k.val + 1)) y = outOf ids vals tab y := fun y hy => by
    have h := (mem_ouK L k y).mp hy
    exact if_pos (by omega)
  have hout : ∀ y ∈ ouPart (wid L) \ (ouK L k).view.set, outTo ids vals tab fo (13312 * (wid L).val + 1024 * k.val) y
      = outTo ids vals tab fo (13312 * (wid L).val + 1024 * (k.val + 1)) y := fun y hy => by
    have h := mt (mem_ouK L k y).mpr (Finset.mem_sdiff.mp hy).2
    unfold outTo
    by_cases h1 : (y 0).val < 13312 * (wid L).val + 1024 * k.val
    · rw [if_pos h1, if_pos (by omega)]
    · rw [if_neg h1, if_neg (by omega)]
  have hs : ∀ f : Buf (Elt F) ((ouV).view.loc (thr d L)), ((ouV).view.loc (thr d L) ↦[ouPart (wid L)]{fullShare} f : sProp 𝕄)
      ⊣⊢ iprop(((ouV).view.loc (thr d L) ↦[(ouK L k).view.set]{fullShare} f)
        ∗ (ouV).view.loc (thr d L) ↦[ouPart (wid L) \ (ouK L k).view.set]{fullShare} f) := fun f => pointsTo_split_subset (ouK_sub L k)
  unfold inv1
  iintro ⟨Hh, Ho⟩
  ihave Ho := (hs _).1 $$ Ho
  icases Ho with ⟨Ho, Hrest⟩
  iapply (wp_wand_r _ _ _)
  isplitl [Hh Ho]
  · iapply (trip1 d L k q ids vals tab hids O W (outTo ids vals tab fo (13312 * (wid L).val + 1024 * k.val)))
    isplitl [Hh]; · iexact Hh
    iexact Ho
  · iintro %_ ⟨Hh, Ho⟩
    isplitl [Hh]; · iexact Hh
    iapply (hs _).2
    isplitl [Ho]
    · iapply (Entails.of_eq (pointsTo_congr fun y hy => (hin y hy).symm)) $$ Ho
    · iapply (Entails.of_eq (pointsTo_congr hout)) $$ Hrest

/-! ## What a task takes and brings back -/

abbrev idLoc (d : Dev nD) : Loc nD τ sig := (SparseCore.T d).loc main_v0
abbrev vaLoc (d : Dev nD) : Loc nD τ sig := (SparseCore.T d).loc main_v1
abbrev taLoc (d : Dev nD) : Loc nD τ sig := (SparseCore.T d).loc main_arg2
abbrev ouLoc (d : Dev nD) : Loc nD τ sig := (SparseCore.T d).loc main_v2

/-- Worker `w`'s share of the arrays every worker reads. -/
abbrev wq (w : Fin 32) : PosShare TreeShare := ShareLeaves.leaf 5 fullShare w

/-- Worker `w`'s share of the ids, the values and the table, and its rows of the result at `f`. -/
abbrev tileRes (d : Dev nD) (w : Fin 32) (ids : S425984.Idx → BitVec 32) (vals : S425984.Idx → F .f32) (tab : S1000000x16.Idx → F .f32)
    (f : S425984x16.Idx → F .f32) : sProp 𝕄 :=
  iprop((idLoc d ↦{wq w} (ids : Buf (Elt F) (idLoc d))) ∗ (vaLoc d ↦{wq w} (vals : Buf (Elt F) (vaLoc d)))
    ∗ (taLoc d ↦{wq w} (tab : Buf (Elt F) (taLoc d))) ∗ ouLoc d ↦[ouPart w]{fullShare} (f : Buf (Elt F) (ouLoc d)))

/-! ## The subcore's own semaphores and scratch -/

abbrev cGcell : GSem nD τ sig := (thr d L, .dma cc0_scratch3.sem)
abbrev cAcell : GSem nD τ sig := (thr d L, .dma cc0_scoped0.sem)
abbrev cBcell : GSem nD τ sig := (thr d L, .dma cc0_scoped1.sem)
abbrev cCcell : GSem nD τ sig := (thr d L, .dma cc0_scoped2.sem)

omit [FloatOps F] in
theorem cell_ne {a b : SemLoc sig} (h : a ≠ b) : ((thr d L, a) : GSem nD τ sig) ≠ (thr d L, b) := fun e => h (Prod.mk.inj e).2

omit [FloatOps F] in
theorem cell_mem {a : SemLoc sig} (h : a.isScoped .scVector = true) : ((thr d L, a) : GSem nD τ sig) ∈ ownCells (thr d L) :=
  mem_ownCells.mpr ⟨rfl, h⟩

omit [FloatOps F] in
/-- The four semaphores of the task are among the subcore's own. -/
theorem ownSems0_V :
    (ownSems0 (thr d L) : sProp 𝕄)
      = iprop(semVal (cGcell d L) 0 ∗ semVal (cAcell d L) 0 ∗ semVal (cBcell d L) 0 ∗ semVal (cCcell d L) 0
          ∗ bigSep (((((ownCells (thr d L)).erase (cGcell d L)).erase (cAcell d L)).erase (cBcell d L)).erase (cCcell d L)) fun g => semVal g 0) := by
  unfold SparseCore.Cfg.ownSems0
  rw [SparseCore.bigSep_erase' (cell_mem d L (a := .dma cc0_scratch3.sem) (by decide)),
    SparseCore.bigSep_erase' (Finset.mem_erase.mpr ⟨cell_ne d L (by decide), cell_mem d L (a := .dma cc0_scoped0.sem) (by decide)⟩),
    SparseCore.bigSep_erase' (Finset.mem_erase.mpr ⟨cell_ne d L (by decide), Finset.mem_erase.mpr ⟨cell_ne d L (by decide),
      cell_mem d L (a := .dma cc0_scoped1.sem) (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L (a := .dma cc0_scoped2.sem) (by decide)⟩⟩⟩)]

abbrev bI : DevRef τ sig := (Proc.scVector (cV L) (jV L)).devRef cc0_scratch0
abbrev bV : DevRef τ sig := (Proc.scVector (cV L) (jV L)).devRef cc0_scratch1
abbrev bR : DevRef τ sig := (Proc.scVector (cV L) (jV L)).devRef cc0_scratch2

omit [FloatOps F] in
theorem buf_ne {a b : Ref sig .scVector} (h : a ≠ b) : (Proc.scVector (τ := τ) (cV L) (jV L)).devRef a ≠ (Proc.scVector (cV L) (jV L)).devRef b :=
  fun e => h (Proc.devRef_injective _ e)

omit [FloatOps F] in
/-- The three scratch buffers are among the subcore's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (bI L)).erase (bV L)).erase (bR L))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := bI L) rfl)).trans ?_
  rw [SparseCore.bigSep_erase' (Finset.mem_erase.mpr ⟨buf_ne L (by decide),
      SparseCore.Cfg.mem_ownRefs_of_owner (p := Proc.scVector (cV L) (jV L)) (b := bV L) rfl⟩),
    SparseCore.bigSep_erase' (Finset.mem_erase.mpr ⟨buf_ne L (by decide), Finset.mem_erase.mpr ⟨buf_ne L (by decide),
      SparseCore.Cfg.mem_ownRefs_of_owner (p := Proc.scVector (cV L) (jV L)) (b := bR L) rfl⟩⟩)]

/-! ## The task -/

/-- The task on vector subcore `(L 0, L 1)` of device `d`: from the worker's share of the arrays, its rows computed. -/
theorem tile_body (hF : (K (F := F)).Facts) (ids : S425984.Idx → BitVec 32) (vals : S425984.Idx → F .f32) (tab : S1000000x16.Idx → F .f32)
    (fo : S425984x16.Idx → F .f32) (hids : ∀ j, (ids j).toNat < 1000000)
    (O : CellTallies nD τ sig (HIx 1)) (W : Waits sig (HIx 1)) (hO : ∀ g, O g none = 0) :
    iprop(levAts (K (F := F)).L (K (F := F)).lev ∗ emp ∗ tileRes d (wid L) ids vals tab fo
        ∗ scopedBufs (thr d L) ∗ scopedSems0 (thr d L) ∗ owes (thr d L) O W)
      ⊢ (wp frame (wpE (defs₀ (F := F)) 𝒱₀ (thr d L) none) Set.univ
          (cc0__sc_body L idV (Memref.isWhole_whole _) vaV (Memref.isWhole_whole _) taV (Memref.isWhole_whole _) ouV (Memref.isWhole_whole _)
            sI (Memref.isWhole_whole _) sV (Memref.isWhole_whole _) sR (Memref.isWhole_whole _) cc0_scratch3 cc0_scoped0 cc0_scoped1 cc0_scoped2)
          fun _ => iprop(tileRes d (wid L) ids vals tab (outOf ids vals tab)
            ∗ scopedBufs (thr d L) ∗ scopedSems0 (thr d L)
            ∗ ∃ W', ⌜∀ p ∈ W', p ∈ W ∨ p.2 = none⌝ ∗ owes (thr d L) O W') : sProp 𝕄) := by
  have hstart : ∀ y ∈ ouPart (wid L), fo y = outTo ids vals tab fo (13312 * (wid L).val + 1024 * 0) y := fun y hy => by
    have h := (mem_ouPart _ y).mp hy
    unfold outTo; rw [if_neg (by omega)]
  have hend : ∀ y ∈ ouPart (wid L), outTo ids vals tab fo (13312 * (wid L).val + 1024 * 13) y = outOf ids vals tab y := fun y hy => by
    have h := (mem_ouPart _ y).mp hy
    exact if_pos (by omega)
  have htrips : k0_t1_loop.trips = 13 := by decide
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hid, Hva, Hta, Ho⟩, ⟨Hi, Hv, Hr, Hbufs⟩, ⟨HsG, HsA, HsB, HsC, Hsems⟩, HO⟩
  ihave Hmw := (show levAts (K (F := F)).L (K (F := F)).lev ⊢ Transfers.MayWaits (thr d L) (default : HIx 1) O from
    (K (F := F)).mayWaits_none (thr := thr d L) hO) $$ Hlv
  ihave Ho := (Entails.of_eq (pointsTo_congr hstart)) $$ Ho
  sl_for (inv1 d L (wq (wid L)) ids vals tab O W fo) $$ [Hmw Hid Hva Hta Ho Hi Hv Hr HsG HsA HsB HsC HO]
  case region => intro k _; exact step1 d L k (wq (wid L)) ids vals tab hids O W fo
  · unfold inv1 held
    isplitr [Ho]
    · isplitl [Hmw]; · iexact Hmw
      isplitl [Hid]; · iexact Hid
      isplitl [Hva]; · iexact Hva
      isplitl [Hta]; · iexact Hta
      isplitl [Hi]; · iexact Hi
      isplitl [Hv]; · iexact Hv
      isplitl [Hr]; · iexact Hr
      isplitl [HsG]; · iexact HsG
      isplitl [HsA]; · iexact HsA
      isplitl [HsB]; · iexact HsB
      isplitl [HsC]; · iexact HsC
      iexists W; isplitr
      · ipureintro; exact fun p hp => .inl hp
      · iexact HO
    · iexact Ho
  iintro %_ HI
  unfold inv1 held
  icases HI with ⟨⟨-, Hid, Hva, Hta, Hi, Hv, Hr, HsG, HsA, HsB, HsC, HO⟩, Ho⟩
  ihave Ho := (Entails.of_eq (show ((ouV).view.loc (thr d L) ↦[ouPart (wid L)]{fullShare}
        (outTo ids vals tab fo (13312 * (wid L).val + 1024 * k0_t1_loop.trips) : Buf (Elt F) ((ouV).view.loc (thr d L))) : sProp 𝕄)
      = ouLoc d ↦[ouPart (wid L)]{fullShare} (outOf ids vals tab : Buf (Elt F) (ouLoc d)) by
    rw [htrips]; exact pointsTo_congr hend)) $$ Ho
  sl_step
  isplitl [Hid Hva Hta Ho]
  · isplitl [Hid]; · iexact Hid
    isplitl [Hva]; · iexact Hva
    isplitl [Hta]; · iexact Hta
    iexact Ho
  isplitl [Hi Hv Hr Hbufs]
  · isplitl [Hi]; · iexact Hi
    isplitl [Hv]; · iexact Hv
    isplitl [Hr]; · iexact Hr
    iexact Hbufs
  isplitl [HsG HsA HsB HsC Hsems]
  · isplitl [HsG]; · iexact HsG
    isplitl [HsA]; · iexact HsA
    isplitl [HsB]; · iexact HsB
    isplitl [HsC]; · iexact HsC
    iexact Hsems
  iexact HO

end Cert.Proof.KernelIdealTask

end
-- ==== Proof.IdsInRange.lean ====
/-
  The precondition read back: the printed predicate is `jnp.all((0 <= id) & (id < 1000000))`; where it holds, every id,
  read as an unsigned word, is below 1000000: a row of the table.
-/
module

public import proofs.«01_k».proof.Defs
public import Idealize.ShloMosaic.Lib.ReduceAll
public import proofs.«01_k».proof.Proof.Gen.Pre_ids_in_range

@[expose] public section

namespace Cert.Proof.IdsInRange

open Idealize.ShloMosaic
open Cert.Pre_ids_in_range

/-- The scalar shape has one index. -/
instance : Subsingleton S_.Idx := ⟨fun a b => funext fun i => i.elim0⟩

theorem ids_lt {F : FTy → Type} [FloatOps F] (a0 : S16384x26.Idx → BitVec 32) (a1 : S16384x26.Idx → F .f32) (a2 : S1000000x16.Idx → F .f32)
    (h : Cert.Pre_ids_in_range.fn (F := F) a0 a1 a2 = fun _ => 1#1) (j : S16384x26.Idx) : (a0 j).toNat < 1000000 := by
  have e := Host.reduce_andi_all _ _ _ _ (fun i => i.elim0) (congrFun h fun i => i.elim0) j
  have e' : IntOp.andi (IntOp.cmpi .sge (a0 j) 0#32) (IntOp.cmpi .slt (a0 j) 1000000#32) = 1#1 := e
  obtain ⟨h1, h2⟩ := IntOp.andi_eq_one.mp e'
  rw [IntOp.cmpi_slt] at h2
  rw [IntOp.cmpi_sge] at h1
  simp only [BitVec.toInt_eq_toNat_cond, BitVec.toNat_ofNat, Nat.reducePow, Nat.reduceMod] at h1 h2
  omega

end Cert.Proof.IdsInRange
-- ==== Proof.KernelIdealLaunch.lean ====
/-
  The kernel's launch: the two SparseCores' thirty-two tasks share the ids, the values and the table and own the result's
  rows among them, and come back with the result computed; around the call, @main flattens the ids and the values and gives
  the result its three axes. The run of the whole program follows, with its result's value.
-/
module

public import proofs.«01_k».proof.Proof.KernelIdealTask
public import proofs.«01_k».proof.Proof.IdsInRange

@[expose] public section

noncomputable section

namespace Cert.Proof.KernelIdealLaunch

open Cert.KernelIdeal Cert.KernelIdeal.Gen
open Cert.Proof.KernelIdealRows Cert.Proof.KernelIdealTile Cert.Proof.KernelIdealTask

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (wp_hlo_within)
open Idealize.ShloMosaic.Tactic

variable {F : FTy → Type}

local notation "𝕄" => MT nD τ sig (HIx 1) (Elt F) ℕ UU ℕ
local notation "idV" => (Memref.whole Cert.KernelIdeal.main_v0_scv : Memref Cert.KernelIdeal.sig Kind.scVector Space.hbm Cert.KernelIdeal.S425984 EltTy.i32)
local notation "vaV" => (Memref.whole Cert.KernelIdeal.main_v1_scv : Memref Cert.KernelIdeal.sig Kind.scVector Space.hbm Cert.KernelIdeal.S425984 EltTy.f32)
local notation "taV" => (Memref.whole Cert.KernelIdeal.main_arg2_scv : Memref Cert.KernelIdeal.sig Kind.scVector Space.hbm Cert.KernelIdeal.S1000000x16 EltTy.f32)
local notation "ouV" => (Memref.whole Cert.KernelIdeal.main_v2_scv : Memref Cert.KernelIdeal.sig Kind.scVector Space.hbm Cert.KernelIdeal.S425984x16 EltTy.f32)
local notation "sI" => (Memref.whole Cert.KernelIdeal.cc0_scratch0 : Memref Cert.KernelIdeal.sig Kind.scVector Space.vmem Cert.KernelIdeal.S1024 EltTy.i32)
local notation "sV" => (Memref.whole Cert.KernelIdeal.cc0_scratch1 : Memref Cert.KernelIdeal.sig Kind.scVector Space.vmem Cert.KernelIdeal.S1024 EltTy.f32)
local notation "sR" => (Memref.whole Cert.KernelIdeal.cc0_scratch2 : Memref Cert.KernelIdeal.sig Kind.scVector Space.vmem Cert.KernelIdeal.S1024x16 EltTy.f32)

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-! ## The launch memory, and what the program computes from it -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev reLoc (d : Dev nD) : Loc nD τ sig := (SparseCore.T d).loc main_v3

/-- The flat ids, the flat values, the table, and the result's contents before the call. -/
def ids (d : Dev nD) : S425984.Idx → BitVec 32 := fun i => shapeCast (α := BitVec 32) S425984 (m (a0Loc d)) shapeCasts_S16384x26_S425984 i
def vals (d : Dev nD) : S425984.Idx → F .f32 := fun i => shapeCast (α := F .f32) S425984 (m (a1Loc d)) shapeCasts_S16384x26_S425984 i
def tab (d : Dev nD) : S1000000x16.Idx → F .f32 := m (taLoc d)
def old (d : Dev nD) : S425984x16.Idx → F .f32 := m (ouLoc d)

/-- The flat result, and the program's. -/
def out (d : Dev nD) : S425984x16.Idx → F .f32 := outOf (ids m d) (vals m d) (tab m d)
def res (d : Dev nD) : S16384x26x16.Idx → F .f32 := fun i => shapeCast (α := F .f32) S16384x26x16 (out m d) shapeCasts_S425984x16_S16384x26x16 i

/-- What the proof asks of the launch memory: every id is a row of the table. -/
def PreOK : Prop := ∀ (d : Dev nD) (j : S16384x26.Idx), ((m (a0Loc d) : S16384x26.Idx → BitVec 32) j).toNat < 1000000

theorem ids_ok (hpre : PreOK m) (d : Dev nD) (j : S425984.Idx) : (ids m d j).toNat < 1000000 := hpre d _

/-! ## What the handshakes carry -/

/-- Subcore `s` of SparseCore `c` is this worker. -/
def wn (s : Fin 16) (c : Fin 2) : Fin 32 := ⟨2 * s.val + c.val, by omega⟩

/-- What worker `wn s c` takes, with its rows of the result at `f`. -/
abbrev forTile (d : Dev nD) (f : S425984x16.Idx → F .f32) (c : Fin ((K (F := F)).nCore 0)) (s : Fin 16) : sProp 𝕄 :=
  tileRes d (wn s (Fin.cast nCore_zero c)) (ids m d) (vals m d) (tab m d) f

/-- What a SparseCore takes: what its sixteen workers take. -/
abbrev forCore (d : Dev nD) (f : S425984x16.Idx → F .f32) (c : Fin ((K (F := F)).nCore 0)) : sProp 𝕄 :=
  bigSep Finset.univ fun s : Fin 16 => forTile m d f c s

/-- The call carries the workers' shares and rows out with the result as it was, and back with it computed. -/
def P : (K (F := F)).Pay (nD := nD) (Val := Elt F) (Name := ℕ) (U := UU) where
  st := fun q d c => match q with | 0 => forCore m d (old m d) c
  dn := fun q d c => match q with | 0 => forCore m d (out m d) c
  go := fun q d c i => match q with | 0 => forTile m d (old m d) c (Fin.cast nSub_zero i)
  td := fun q d c i => match q with | 0 => forTile m d (out m d) c (Fin.cast nSub_zero i)
  x := fun _ _ => iprop(emp)

instance P_storable : (P (F := F) m).IsStorable where
  st q d c := match q with | 0 => (inferInstance : BI.Storable (upEmb : UEmb _ 𝕄) (forCore m d (old m d) c))
  dn q d c := match q with | 0 => (inferInstance : BI.Storable (upEmb : UEmb _ 𝕄) (forCore m d (out m d) c))
  go q d c i := match q with | 0 => (inferInstance : BI.Storable (upEmb : UEmb _ 𝕄) (forTile m d (old m d) c (Fin.cast nSub_zero i)))
  td q d c i := match q with | 0 => (inferInstance : BI.Storable (upEmb : UEmb _ 𝕄) (forTile m d (out m d) c (Fin.cast nSub_zero i)))

/-! ## The tasks' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          idV (Memref.isWhole_whole _) vaV (Memref.isWhole_whole _) taV (Memref.isWhole_whole _) ouV (Memref.isWhole_whole _)
          sI (Memref.isWhole_whole _) sV (Memref.isWhole_whole _) sR (Memref.isWhole_whole _)
          cc0_scratch3 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (ids m d) (vals m d) (tab m d) (old m d) (ids_ok m hpre d) O W hO).trans
    (wp_mono frame _ _ fun _ => obl_post)

/-! ## The split among the workers, and the join -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show forCore m d (old m d) c ⊢ |={Set.univ}=> iprop(
      (bigSep Finset.univ fun i : Fin ((K (F := F)).nSub 0) => forTile m d (old m d) c (Fin.cast nSub_zero i))
      ∗ ((bigSep Finset.univ fun i : Fin ((K (F := F)).nSub 0) => forTile m d (out m d) c (Fin.cast nSub_zero i)) -∗ forCore m d (out m d) c))
  rw [bigSep_tasks (F := F) (fun i => forTile m d (old m d) c i), bigSep_tasks (F := F) (fun i => forTile m d (out m d) c i)]
  iintro H; imodintro
  isplitl [H]; · iexact H
  iintro H; iexact H

omit [FloatOps F] in
theorem ouParts_disjoint : ∀ i ∈ (Finset.univ : Finset (Fin 32)), ∀ j ∈ (Finset.univ : Finset (Fin 32)), i ≠ j → Disjoint (ouPart i) (ouPart j) :=
  fun i _ j _ h => Finset.disjoint_left.mpr fun y hi hj => h (Fin.ext (by
    have h1 := (mem_ouPart i y).mp hi
    have h2 := (mem_ouPart j y).mp hj
    omega))

omit [FloatOps F] in
theorem ouParts_cover : (Finset.univ : Finset (Fin 32)).biUnion ouPart = Finset.univ := Finset.eq_univ_of_forall fun y => by
  have hy : (y 0).val < 425984 := (y 0).isLt
  exact Finset.mem_biUnion.mpr ⟨⟨(y 0).val / 13312, by omega⟩, Finset.mem_univ _, (mem_ouPart _ y).mpr (by
    show 13312 * ((y 0).val / 13312) ≤ _ ∧ _ < 13312 * ((y 0).val / 13312 + 1)
    omega)⟩

/-- Everything the workers take together: the four arrays, whole. -/
theorem cores_eq (d : Dev nD) (f : S425984x16.Idx → F .f32) :
    (bigSep Finset.univ fun c : Fin ((K (F := F)).nCore 0) => forCore m d f c)
      = iprop((idLoc d ↦{fullShare} (ids m d : Buf (Elt F) (idLoc d))) ∗ (vaLoc d ↦{fullShare} (vals m d : Buf (Elt F) (vaLoc d)))
        ∗ (taLoc d ↦{fullShare} (tab m d : Buf (Elt F) (taLoc d))) ∗ (ouLoc d ↦{fullShare} (f : Buf (Elt F) (ouLoc d)) : sProp 𝕄)) := by
  have hall : (bigSep Finset.univ fun w : Fin 32 => tileRes d w (ids m d) (vals m d) (tab m d) f)
      = iprop((idLoc d ↦{fullShare} (ids m d : Buf (Elt F) (idLoc d))) ∗ (vaLoc d ↦{fullShare} (vals m d : Buf (Elt F) (vaLoc d)))
        ∗ (taLoc d ↦{fullShare} (tab m d : Buf (Elt F) (taLoc d))) ∗ (ouLoc d ↦{fullShare} (f : Buf (Elt F) (ouLoc d)) : sProp 𝕄)) := by
    rw [bigSep_sep', bigSep_sep', bigSep_sep', ← pointsTo_biUnion Finset.univ (ℓ := ouLoc d) ouPart ouParts_disjoint, ouParts_cover,
      ShareLeaves.pointsTo_leaves Finset.univ _ 5 fullShare (ℓ := idLoc d), ShareLeaves.pointsTo_leaves Finset.univ _ 5 fullShare (ℓ := vaLoc d),
      ShareLeaves.pointsTo_leaves Finset.univ _ 5 fullShare (ℓ := taLoc d)]
    rfl
  rw [← hall, bigSep_univ_equiv (finProdFinEquiv : Fin 16 × Fin 2 ≃ Fin 32), bigSep_univ_prod]
  refine Eq.trans ?_ (bigSep_univ_comm fun (c : Fin 2) (s : Fin 16) =>
    tileRes d (finProdFinEquiv (s, c)) (ids m d) (vals m d) (tab m d) f)
  refine bigSep_congr fun c _ => bigSep_congr fun s _ => ?_
  have hw : (finProdFinEquiv (s, Fin.cast nCore_zero c) : Fin 32) = wn s (Fin.cast nCore_zero c) := Fin.ext (Nat.add_comm _ _)
  show tileRes d (wn s (Fin.cast nCore_zero c)) _ _ _ f = tileRes d (finProdFinEquiv (s, Fin.cast nCore_zero c)) _ _ _ f
  rw [hw]

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
/-- @main's seven arrays, whole. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (taLoc d ↦{fullShare} W main_arg2)
      ∗ (idLoc d ↦{fullShare} W main_v0) ∗ (vaLoc d ↦{fullShare} W main_v1) ∗ (ouLoc d ↦{fullShare} W main_v2) ∗ reLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- An array of @main's, as the memory knows it. -/
abbrev dr (x : Ref sig .tc) : DevRef τ sig := Proc.devRef .tc x

omit [FloatOps F] in
theorem held_pair (d : Dev nD) {x y : Ref sig .tc} (h : x ≠ y) (V : Valuation τ sig (Elt F)) :
    (StableHlo.held (SparseCore.T d) {dr x, dr y} V : sProp 𝕄)
      = iprop(((SparseCore.T d).loc x ↦{fullShare} V (dr x)) ∗ (SparseCore.T d).loc y ↦{fullShare} V (dr y)) := by
  unfold StableHlo.held
  rw [SparseCore.bigSep_insert' (fun e => h (Proc.devRef_injective _ (Finset.mem_singleton.mp e))), bigSep_singleton]

/-- A reshape, from its two arrays: the operand kept, the result the operand in row-major order. -/
theorem wp_reshape {Λ : Labels} {defs : Defs nD τ sig (Elt F) Λ} {𝒱' : Variants} {bd : Option 𝒱'.V} (d : Dev nD) (x y : Ref sig .tc)
    (he : x.ty.elt = y.ty.elt) (hn : x.ty.shape.ShapeCasts y.ty.shape)
    (hx : x.space ≠ .host ∧ (dr x).isScoped = false) (hy : y.space ≠ .host ∧ (dr y).isScoped = false)
    (h : x ≠ y) (V : Valuation τ sig (Elt F)) {α : Type}
    {k : ((b : (StableHlo.reshape (τ := τ) (Val := Elt F) x y he hn hx hy).writes) → b.1.ty.Contents (Elt F)) → Prog (TpuEff nD τ sig (Elt F) Λ .tc) α}
    {Q : α → sProp 𝕄} :
    iprop(boundary (SparseCore.T d) ∗ ((SparseCore.T d).loc x ↦{fullShare} V (dr x)) ∗ (SparseCore.T d).loc y ↦{fullShare} V (dr y))
      ⊢ iprop(((boundary (SparseCore.T d) ∗ ((SparseCore.T d).loc x ↦{fullShare} V (dr x))
            ∗ (SparseCore.T d).loc y ↦{fullShare} (fun i => he ▸ shapeCast y.ty.shape (V (dr x)) hn i : y.ty.Contents (Elt F)))
          -∗ wp frame (wpE defs 𝒱' (SparseCore.T d) bd) Set.univ (k ((StableHlo.reshape (τ := τ) (Val := Elt F) x y he hn hx hy).fn fun b => V b.1)) Q)
        -∗ wp frame (wpE defs 𝒱' (SparseCore.T d) bd) Set.univ (hlo rfl (StableHlo.reshape x y he hn hx hy) k) Q) := by
  have hw := wp_hlo_within (defs := defs) 𝒱' (SparseCore.T d) bd Set.univ (hp := rfl) (op := StableHlo.reshape (τ := τ) (Val := Elt F) x y he hn hx hy)
    (k := k) (S := {dr x, dr y}) (Finset.Subset.refl _) (V := V) (Q := Q)
  rw [held_pair d h, held_pair d h, StableHlo.reshape_result, StableHlo.reshape_result_ne (h := h)] at hw
  exact hw

/-- What @main ends with: the arguments as they were, the result computed. -/
abbrev FIN (d : Dev nD) : sProp 𝕄 :=
  iprop((a0Loc d ↦{fullShare} m (a0Loc d)) ∗ (a1Loc d ↦{fullShare} m (a1Loc d)) ∗ (taLoc d ↦{fullShare} m (taLoc d))
    ∗ reLoc d ↦{fullShare} (res m d : Buf (Elt F) (reLoc d)))

/-- The launch memory, and the memory after the call. -/
def V0 (d : Dev nD) : Valuation τ sig (Elt F) := fun b => m (d, b)
def V1 (d : Dev nD) : Valuation τ sig (Elt F) := Function.update (V0 m d) (dr main_v2) (out m d : Buf (Elt F) (ouLoc d))

theorem V1_ou (d : Dev nD) : V1 m d (dr main_v2) = (out m d : Buf (Elt F) (ouLoc d)) := Function.update_self _ _ _
theorem V1_re (d : Dev nD) : V1 m d (dr main_v3) = m (reLoc d) :=
  Function.update_of_ne (show dr main_v3 ≠ dr main_v2 by decide) _ _

/-- @main on device `d`'s TensorCore: the ids and the values flattened, the call, the result at its three axes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, Hta, Hid, Hva, Hou, Hre⟩, Hts, -⟩, -⟩
  iapply (wp_reshape d main_arg0 main_v0 rfl _ _ _ (by decide) (V0 m d)) $$ [Hb H0 Hid]
  · isplitl [Hb]; · iexact Hb
    isplitl [H0]; · iexact H0
    iexact Hid
  iintro ⟨Hb, H0, Hid⟩
  rw [wp_ret]; imodintro
  iapply (wp_reshape d main_arg1 main_v1 rfl _ _ _ (by decide) (V0 m d)) $$ [Hb H1 Hva]
  · isplitl [Hb]; · iexact Hb
    isplitl [H1]; · iexact H1
    iexact Hva
  iintro ⟨Hb, H1, Hva⟩
  rw [wp_ret]; imodintro
  iapply ((K (F := F)).wp_run (D (F := F)) 𝒱 (EH := EH) (P := P m) κ d 0) $$ [Hst H0 H1 Hta Hid Hva Hou Hre Hb Hts]
  isplitr; · iexact Hctx
  isplitl [Hst]; · iexact Hst
  isplitl [Hta Hid Hva Hou]
  · iapply (Entails.of_eq (cores_eq m d (old m d)).symm)
    isplitl [Hid]; · iexact Hid
    isplitl [Hva]; · iexact Hva
    isplitl [Hta]; · iexact Hta
    iexact Hou
  iintro ⟨Hst, Hdn⟩
  ihave Hdn' := (show (bigSep Finset.univ fun c : Fin ((K (F := F)).nCore 0) => (P m).dn 0 d c) ⊢ _ from
    Entails.of_eq (cores_eq m d (out m d))) $$ Hdn
  icases Hdn' with ⟨-, -, Hta, Hou⟩
  iapply (wp_reshape d main_v2 main_v3 rfl _ _ _ (by decide) (V1 m d)) $$ [Hb Hou Hre]
  · rw [V1_ou, V1_re]
    isplitl [Hb]; · iexact Hb
    isplitl [Hou]; · iexact Hou
    iexact Hre
  rw [V1_ou]
  iintro ⟨Hb, -, Hre⟩
  rw [wp_ret]; imodintro; imodintro
  isplitl [Hst]; · iexact Hst
  isplitr [Hb Hts]
  · isplitl [H0]; · iexact H0
    isplitl [H1]; · iexact H1
    isplitl [Hta]; · iexact Hta
    iexact Hre
  isplitl [Hb] <;> iassumption

/-! ## The program's run -/

def fq (d : Dev nD) (s' : Phys nD τ sig (Elt F)) : Prop :=
  s'.mem.mem (a0Loc d) = m (a0Loc d) ∧ s'.mem.mem (a1Loc d) = m (a1Loc d) ∧ s'.mem.mem (taLoc d) = m (taLoc d)
    ∧ s'.mem.mem (reLoc d) = (res m d : Buf (Elt F) (reLoc d))

omit [FloatOps F] in
/-- An array held whole is what the final memory holds. -/
theorem agree {ℓ : Loc nD τ sig} (f : Buf (Elt F) ℓ) (s' : Phys nD τ sig (Elt F)) (R : sProp 𝕄) {φ : Prop}
    (h : iprop(R ∗ SI s') ⊢ (⌜φ⌝ : sProp 𝕄)) :
    iprop(((ℓ ↦{fullShare} f) ∗ R) ∗ SI s') ⊢ (⌜s'.mem.mem ℓ = f ∧ φ⌝ : sProp 𝕄) := by
  iintro ⟨⟨Hp, HR⟩, HSI⟩
  ihave H := (persistent_entails_right (SI_pointsTo_agree (st := s') (ℓ := ℓ) (I := Finset.univ) (q := fullShare) (f := f))) $$ [HSI Hp]
  · isplitl [HSI] <;> iassumption
  icases H with ⟨%h1, HSI, -⟩
  ihave H := h $$ [HR HSI]
  · isplitl [HR] <;> iassumption
  icases H with %h2
  ipureintro; exact ⟨funext fun i => h1 i (Finset.mem_univ i), h2⟩

theorem hfin (d : Dev nD) (s' : Phys nD τ sig (Elt F)) : iprop(FIN m d ∗ SI s') ⊢ (⌜fq m d s'⌝ : sProp 𝕄) := by
  refine agree _ s' _ (agree _ s' _ (agree _ s' _ ?_))
  iintro ⟨Hre, HSI⟩
  ihave H := (SI_pointsTo_agree (st := s') (ℓ := reLoc d) (I := Finset.univ) (q := fullShare) (f := (res m d : Buf (Elt F) (reLoc d)))) $$ [HSI Hre]
  · isplitl [HSI] <;> iassumption
  icases H with %h
  ipureintro; exact funext fun i => h i (Finset.mem_univ i)

def QC : PUnit × MemSt nD τ sig (Elt F) → Prop := fun r =>
  (∀ d : Dev nD, r.2.mem (a0Loc d) = m (a0Loc d) ∧ r.2.mem (a1Loc d) = m (a1Loc d) ∧ r.2.mem (taLoc d) = m (taLoc d)
    ∧ r.2.mem (reLoc d) = (res m d : Buf (Elt F) (reLoc d))) ∧ r.2.sem = fun _ => 0

/-- The whole program runs, keeps its arguments, ends with its result at `res`, and leaves every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The frame -/

theorem ok_of_pre (m : (ℓ : Loc nD τ sig) → Buf (Elt Ideal) ℓ) (h : Cert.Pre_KernelIdeal m) : PreOK (F := Ideal) m :=
  fun d j => IdsInRange.ids_lt (F := Ideal) (m (a0Loc d)) (m (a1Loc d)) (m (taLoc d)) (h d) j

/-- `Cert.quiescent_KernelIdeal` (Defs.lean). -/
theorem kept : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ (ok_of_pre m hpre))

end Cert.Proof.KernelIdealLaunch

end
-- ==== Proof.ReferenceValue.lean ====
/-
  What the reference computes: its `jnp.take` wraps negative ids, clamps the rows it reads and masks the rows an id out of
  range names. Where every id is a row of the table, none of the three does anything, and element `(b, f, e)` of the result
  is the table at row `id[b, f]`, column `e`, times `value[b, f]`. The kernel's result read at an index is the same.
-/
module

public import proofs.«01_k».proof.Defs
-- the proof modules import one another in a chain, so that auxiliary lemmas made on the way are shared
public import proofs.«01_k».proof.Proof.KernelLaunch
public import Idealize.ShloMosaic.Lib.Pipeline.Value
public import proofs.«01_k».proof.Proof.Gen.ReferenceIdeal
public import proofs.«01_k».proof.Proof.Gen.ReferenceIdeal.Run

@[expose] public section

noncomputable section

namespace Cert.Proof.ReferenceValue

open Cert.ReferenceIdeal Cert.ReferenceIdeal.Gen
open Cert.Proof.KernelIdealRows (rowOf outOf)

open Idealize.ShloMosaic Idealize.SL.Sem

variable {F : FTy → Type} [FloatOps F]

/-! ## The reference's result, in pieces -/

/-- The ids with the table's height added to the negative ones. -/
def wrapped (a0 : IVec S16384x26 32) : IVec S16384x26 32 :=
  select (cmpi .slt a0 (broadcastInDim S16384x26 ![] bcast_S_S16384x26 (constantI S_ 32 0#32)))
    (addi a0 (broadcastInDim S16384x26 ![] bcast_S_S16384x26 (constantI S_ 32 1000000#32))) a0

/-- The rows the gather starts at. -/
def starts (a0 : IVec S16384x26 32) : IVec S16384x26x1 32 :=
  broadcastInDim S16384x26x1 ![0, 1] bcast_S16384x26_S16384x26x1_0_1 (wrapped a0)

/-- Which ids are rows of the table. -/
def inTable (a0 : IVec S16384x26 32) : IVec S16384x26 1 :=
  Host.reduce IntOp.andi (andi (cmpi .sge (starts a0) (broadcastInDim S16384x26x1 ![] bcast_S_S16384x26x1 (constantI S_ 32 0#32)))
      (cmpi .sle (starts a0) (broadcastInDim S16384x26x1 ![0, 1, 2] bcast_S1x1x1_S16384x26x1_0_1_2
        (broadcastInDim S1x1x1 ![2] bcast_S1_S1x1x1_2 (constantI S1 32 999999#32)))))
    (constantI S_ 1 1#1) reducesTo_S16384x26x1_S16384x26_d2 h_S_

/-- The rows read. -/
def taken (a0 : IVec S16384x26 32) (a2 : FVec F S1000000x16 .f32) : FVec F S16384x26x16 .f32 :=
  Host.gather gather_S1000000x16_S16384x26x1_S16384x26x16_2_0_n_n_0_2_116 a2 (starts a0)

/-- The reference's result of its three arguments. -/
def value (a0 : IVec S16384x26 32) (a1 : FVec F S16384x26 .f32) (a2 : FVec F S1000000x16 .f32) : FVec F S16384x26x16 .f32 :=
  mulf (select (broadcastInDim S16384x26x16 ![0, 1] bcast_S16384x26_S16384x26x16_0_1 (inTable a0)) (taken a0 a2)
      (broadcastInDim S16384x26x16 ![] bcast_S_S16384x26x16 (constant S_ .f32 0x7FC00000#32)))
    (broadcastInDim S16384x26x16 ![0, 1, 2] bcast_S16384x26x1_S16384x26x16_0_1_2
      (broadcastInDim S16384x26x1 ![0, 1] bcast_S16384x26_S16384x26x1_0_1 a1))

/-! ## Read at an index, every id a row of the table -/

/-- A word below a million is itself as a signed word. -/
theorem toInt_of_lt {v : BitVec 32} (h : v.toNat < 1000000) : v.toInt = v.toNat := by
  rw [BitVec.toInt_eq_toNat_cond]; omega

theorem wrapped_eq (a0 : IVec S16384x26 32) (h : ∀ j, (a0 j).toNat < 1000000) : wrapped a0 = a0 := funext fun j => by
  have hn : ¬ IntOp.cmpi .slt (a0 j) 0#32 = 1#1 := by
    rw [IntOp.cmpi_slt, toInt_of_lt (h j)]
    show ¬ ((a0 j).toNat : Int) < 0
    omega
  exact if_neg hn

theorem starts_apply (a0 : IVec S16384x26 32) (h : ∀ j, (a0 j).toNat < 1000000) (y : S16384x26x1.Idx) :
    starts a0 y = a0 (ix2 (y 0) (y 1)) := by
  unfold starts
  rw [wrapped_eq a0 h]
  pointwise

theorem inTable_apply (a0 : IVec S16384x26 32) (h : ∀ j, (a0 j).toNat < 1000000) (j : S16384x26.Idx) : inTable a0 j = 1#1 := by
  unfold inTable
  refine Host.reduce_andi_one _ _ _ _ j rfl fun i => ?_
  show IntOp.andi (IntOp.cmpi .sge (starts a0 i) 0#32) (IntOp.cmpi .sle (starts a0 i) 999999#32) = 1#1
  rw [starts_apply a0 h, IntOp.andi_eq_one, IntOp.cmpi_sge, IntOp.cmpi_sle, toInt_of_lt (h _)]
  have := h (ix2 (i 0) (i 1))
  refine ⟨?_, ?_⟩
  · show (0 : Int) ≤ _; omega
  · show _ ≤ (999999 : Int); omega

/-- The gather's dimension numbers. -/
abbrev gd : GatherDims S1000000x16 S16384x26x1 S16384x26x16 := gather_S1000000x16_S16384x26x1_S16384x26x16_2_0_n_n_0_2_116

theorem taken_apply (a0 : IVec S16384x26 32) (a2 : FVec F S1000000x16 .f32) (h : ∀ j, (a0 j).toNat < 1000000) (y : S16384x26x16.Idx) :
    taken a0 a2 y = a2 (ix2 (rowOf (a0 (ix2 (y 0) (y 1)))) (y 2)) := by
  unfold taken Host.gather
  refine congrArg a2 (funext fun a => Fin.ext ?_)
  have hy := h (ix2 (y 0) (y 1))
  match a with
  | 0 =>
    show gd.start y (starts a0) 0 + gd.batchCoord y 0 + gd.offCoord y 0 = (rowOf (a0 (ix2 (y 0) (y 1)))).val
    have hs : gd.start y (starts a0) 0 = min (starts a0 (ix3 (y 0) (y 1) 0)).toInt.toNat 999999 := by
      unfold GatherDims.start
      rw [dif_pos (show (0 : Fin 2) ∈ gd.startIndexMap from List.mem_singleton.mpr rfl)]
      refine congrArg (fun i => min (starts a0 i).toInt.toNat 999999) (funext fun b => Fin.ext ?_)
      match b with
      | 0 => rfl
      | 1 => rfl
      | 2 => rfl
    rw [hs, GatherDims.batchCoord_eq_zero _ _ _ List.not_mem_nil,
      GatherDims.offCoord_eq_zero _ _ _ (fun hm => ((GatherDims.mem_sKept _ _).mp hm).1 (List.mem_singleton.mpr rfl)),
      starts_apply a0 h]
    show min (a0 (ix2 (y 0) (y 1))).toInt.toNat 999999 + 0 + 0 = _
    rw [toInt_of_lt hy]
    unfold rowOf
    rw [dif_pos hy]
    show min ((a0 (ix2 (y 0) (y 1))).toNat : Int).toNat 999999 + 0 + 0 = (a0 (ix2 (y 0) (y 1))).toNat
    omega
  | 1 =>
    show gd.start y (starts a0) 1 + gd.batchCoord y 1 + gd.offCoord y 1 = (y 2).val
    have hs : gd.start y (starts a0) 1 = 0 := dif_neg (show (1 : Fin 2) ∉ [(0 : Fin 2)] by decide)
    have ho : gd.offCoord y 1 = (y 2).val := rfl
    rw [hs, GatherDims.batchCoord_eq_zero _ _ _ List.not_mem_nil, ho]
    omega

/-- A selection at an index its mask marks. -/
theorem select_marked {s : Shape} {α : Type} (c : IVec s 1) (a b : s.Idx → α) (y : s.Idx) (h : c y = 1#1) : select c a b y = a y :=
  if_pos h

/-- A product at an index. -/
theorem product_apply {s : Shape} (a b : FVec F s .f32) (y : s.Idx) : mulf a b y = FloatOps.mulf (a y) (b y) := rfl

/-- The reference's result at an index. -/
theorem value_apply (a0 : IVec S16384x26 32) (a1 : FVec F S16384x26 .f32) (a2 : FVec F S1000000x16 .f32)
    (h : ∀ j, (a0 j).toNat < 1000000) (y : S16384x26x16.Idx) :
    value a0 a1 a2 y = FloatOps.mulf (a2 (ix2 (rowOf (a0 (ix2 (y 0) (y 1)))) (y 2))) (a1 (ix2 (y 0) (y 1))) := by
  have hm : broadcastInDim S16384x26x16 ![0, 1] bcast_S16384x26_S16384x26x16_0_1 (inTable a0) y = 1#1 := inTable_apply a0 h _
  have hv : broadcastInDim S16384x26x16 ![0, 1, 2] bcast_S16384x26x1_S16384x26x16_0_1_2
      (broadcastInDim S16384x26x1 ![0, 1] bcast_S16384x26_S16384x26x1_0_1 a1) y = a1 (ix2 (y 0) (y 1)) := by pointwise
  unfold value
  rw [product_apply, select_marked _ _ _ y hm, taken_apply a0 a2 h, hv]

/-! ## The kernel's result, read at an index -/

/-- The kernel's flat result of flattened ids and values, given its three axes, is the reference's. -/
theorem kernel_apply (a0 : IVec S16384x26 32) (a1 : FVec F S16384x26 .f32) (a2 : FVec F S1000000x16 .f32)
    (h1 : S16384x26.ShapeCasts Cert.KernelIdeal.S425984) (h2 : Cert.KernelIdeal.S425984x16.ShapeCasts S16384x26x16)
    (h : ∀ j, (a0 j).toNat < 1000000) :
    shapeCast S16384x26x16 (outOf (shapeCast Cert.KernelIdeal.S425984 a0 h1) (shapeCast Cert.KernelIdeal.S425984 a1 h1) a2) h2 = value a0 a1 a2 := by
  funext y
  have hb : (y 0).val < 16384 := (y 0).isLt
  have hf : (y 1).val < 26 := (y 1).isLt
  have he : (y 2).val < 16 := (y 2).isLt
  let n : Fin 425984 := ⟨26 * (y 0).val + (y 1).val, by omega⟩
  have hn : ∀ {α : Type} (x : S16384x26.Idx → α), shapeCast Cert.KernelIdeal.S425984 x h1 (ix1 n) = x (ix2 (y 0) (y 1)) := fun x =>
    shapeCast_apply x h1 _ _ (by
      rw [Shape.rowMajor_val_one, Shape.rowMajor_val_two]
      show (y 0).val * 26 + (y 1).val = 26 * (y 0).val + (y 1).val
      omega)
  rw [shapeCast_apply _ h2 y (ix2 n (y 2)) (by
    rw [Shape.rowMajor_val_two, Shape.rowMajor_val_three]
    show (26 * (y 0).val + (y 1).val) * 16 + (y 2).val = ((y 0).val * 26 + (y 1).val) * 16 + (y 2).val
    omega), value_apply a0 a1 a2 h]
  unfold outOf
  show FloatOps.mulf (a2 (ix2 (rowOf (shapeCast Cert.KernelIdeal.S425984 a0 h1 (ix1 n))) (y 2))) (shapeCast Cert.KernelIdeal.S425984 a1 h1 (ix1 n)) = _
  rw [hn, hn]

end Cert.Proof.ReferenceValue

end
-- ==== Proof.Algebraic.lean ====
/-
  The two claims that speak of the reference: it runs and keeps its arguments, and from equal arguments whose ids are rows of
  the table it ends with the kernel's result.
-/
module

public import proofs.«01_k».proof.Defs
-- the proof modules import one another in a chain, so that auxiliary lemmas made on the way are shared
public import proofs.«01_k».proof.Proof.ReferenceValue

@[expose] public section

noncomputable section

namespace Cert.Proof.Algebraic

open Idealize.ShloMosaic Idealize.SL.Sem

/-- The reference declares no semaphore, so every memory of it has its counters at zero. -/
theorem reference_quiet (s : MemSt Cert.ReferenceIdeal.nD Cert.ReferenceIdeal.τ Cert.ReferenceIdeal.sig (Elt Ideal)) :
    s.sem = fun _ => 0 := sem_eq_zero_of_no_sems (by decide) s

/-- From any memory, the reference runs and keeps its arguments. -/
theorem reference_kept : Cert.quiescent_ReferenceIdeal := fun m g _ =>
  (θ_run _ _ _).mono (fun r h => ⟨fun c => (h c).2, reference_quiet r.2⟩) (Cert.ReferenceIdeal.Value.run (F := Ideal) m g)

/-- The same under the kernel's precondition. -/
theorem reference_kept_in_range : Cert.quiescent_ReferenceIdeal_pre_ids_in_range := fun m g _ =>
  (θ_run _ _ _).mono (fun r h => ⟨fun c => (h c).2, reference_quiet r.2⟩) (Cert.ReferenceIdeal.Value.run (F := Ideal) m g)

/-- The kernel's result is the reference's term of the kernel's arguments. -/
theorem res_eq (m : (ℓ : Loc Cert.KernelIdeal.nD Cert.KernelIdeal.τ Cert.KernelIdeal.sig) → Buf (Elt Ideal) ℓ)
    (h : KernelIdealLaunch.PreOK (F := Ideal) m) (d : Dev Cert.KernelIdeal.nD) :
    KernelIdealLaunch.res (F := Ideal) m d
      = ReferenceValue.value (F := Ideal) (m (KernelIdealLaunch.a0Loc d)) (m (KernelIdealLaunch.a1Loc d)) (m (KernelIdealTask.taLoc d)) :=
  ReferenceValue.kernel_apply (F := Ideal) (m (KernelIdealLaunch.a0Loc d)) (m (KernelIdealLaunch.a1Loc d)) (m (KernelIdealTask.taLoc d)) _ _ (h d)

theorem algebraic : Cert.algebraic_KernelIdeal_ReferenceIdeal := fun m g m' g' hm hargs => by
  have hok := KernelIdealLaunch.ok_of_pre m hm
  refine ⟨fun d => KernelIdealLaunch.res (F := Ideal) m d, ?_, ?_⟩
  · exact (θ_run _ _ _).mono (fun r h c => ⟨(h.1 c).2.2.2, (h.1 c).1, (h.1 c).2.1, (h.1 c).2.2.1⟩) (KernelIdealLaunch.run_main (F := Ideal) m g hok)
  · refine (θ_run _ _ _).mono (fun r h c => ⟨(h c).1.trans ?_, (h c).2⟩) (Cert.ReferenceIdeal.Value.run (F := Ideal) m' g')
    obtain ⟨e0, e1, e2⟩ := hargs c
    rw [e0, e1, e2]
    exact (res_eq m hok c).symm

end Cert.Proof.Algebraic

end
-- ==== Proof.lean ====
/-
  The proof of `Cert.Claim`: the kernel and its idealization run and keep their arguments (`KernelLaunch.kept`,
  `KernelIdealLaunch.kept`), the reference runs and keeps its own (`Algebraic.reference_kept`), the idealization rewrote no
  operation, and over exact arithmetic the kernel's result is the reference's (`Algebraic.algebraic`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ids_in_range
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_ids_in_range.Gen.facts,
    KernelLaunch.kept, KernelIdealLaunch.kept, Algebraic.reference_kept, Algebraic.reference_kept_in_range, trivial, Algebraic.algebraic⟩

end Cert.Proof

end
